-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x66x240 : Shape := ⟨3, ![1024, 66, 240]⟩
abbrev S66x240x1024 : Shape := ⟨3, ![66, 240, 1024]⟩
abbrev S42x240x1024 : Shape := ⟨3, ![42, 240, 1024]⟩
abbrev S42x240x128 : Shape := ⟨3, ![42, 240, 128]⟩
abbrev S66x240x128 : Shape := ⟨3, ![66, 240, 128]⟩
abbrev S24x240x128 : Shape := ⟨3, ![24, 240, 128]⟩
abbrev S1024x42x240 : Shape := ⟨3, ![1024, 42, 240]⟩

abbrev nBuf : Space → Nat
  | .hbm => 6
  | .vmem => 6
  | .smem => 0
  | _ => 0

abbrev bufTy : (tb : Table) → Fin (tcTables nBuf tb) → BufTy
  | .hbm, ⟨0, _⟩ => ⟨S1024x66x240, .f32⟩
  | .hbm, ⟨1, _⟩ => ⟨S66x240x1024, .f32⟩
  | .hbm, ⟨2, _⟩ => ⟨S42x240x1024, .f32⟩
  | .hbm, ⟨3, _⟩ => ⟨S66x240x1024, .f32⟩
  | .hbm, ⟨4, _⟩ => ⟨S1024x42x240, .f32⟩
  | .hbm, ⟨5, _⟩ => ⟨S1024x66x240, .f32⟩
  | .local _ .vmem, ⟨0, _⟩ => ⟨S42x240x128, .f32⟩
  | .local _ .vmem, ⟨1, _⟩ => ⟨S42x240x128, .f32⟩
  | .local _ .vmem, ⟨2, _⟩ => ⟨S42x240x128, .f32⟩
  | .local _ .vmem, ⟨3, _⟩ => ⟨S42x240x128, .f32⟩
  | .local _ .vmem, ⟨4, _⟩ => ⟨S66x240x128, .f32⟩
  | .local _ .vmem, ⟨5, _⟩ => ⟨S66x240x128, .f32⟩
  | _, _ => ⟨S1024x66x240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S42x240x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S42x240x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S66x240x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S1024x66x240 : Shape := ⟨3, ![1024, 66, 240]⟩
abbrev S42 : Shape := ⟨1, ![42]⟩
abbrev S_ : Shape := ⟨0, ![]⟩
abbrev S42x1 : Shape := ⟨2, ![42, 1]⟩
abbrev S1 : Shape := ⟨1, ![1]⟩
abbrev S1x1 : Shape := ⟨2, ![1, 1]⟩
abbrev S1024x42x240 : Shape := ⟨3, ![1024, 42, 240]⟩

abbrev nBuf : Space → Nat
  | .hbm => 39
  | .vmem => 0
  | .smem => 0
  | _ => 0

abbrev bufTy : (tb : Table) → Fin (tcTables nBuf tb) → BufTy
  | .hbm, ⟨0, _⟩ => ⟨S1024x66x240, .f32⟩
  | .hbm, ⟨1, _⟩ => ⟨S42, .i32⟩
  | .hbm, ⟨2, _⟩ => ⟨S_, .i32⟩
  | .hbm, ⟨3, _⟩ => ⟨S42, .i32⟩
  | .hbm, ⟨4, _⟩ => ⟨S42, .i1⟩
  | .hbm, ⟨5, _⟩ => ⟨S_, .i32⟩
  | .hbm, ⟨6, _⟩ => ⟨S42, .i32⟩
  | .hbm, ⟨7, _⟩ => ⟨S42, .i32⟩
  | .hbm, ⟨8, _⟩ => ⟨S42, .i32⟩
  | .hbm, ⟨9, _⟩ => ⟨S42x1, .i32⟩
  | .hbm, ⟨10, _⟩ => ⟨S1, .i32⟩
  | .hbm, ⟨11, _⟩ => ⟨S_, .i32⟩
  | .hbm, ⟨12, _⟩ => ⟨S42x1, .i32⟩
  | .hbm, ⟨13, _⟩ => ⟨S42x1, .i1⟩
  | .hbm, ⟨14, _⟩ => ⟨S1x1, .i32⟩
  | .hbm, ⟨15, _⟩ => ⟨S42x1, .i32⟩
  | .hbm, ⟨16, _⟩ => ⟨S42x1, .i1⟩
  | .hbm, ⟨17, _⟩ => ⟨S42x1, .i1⟩
  | .hbm, ⟨18, _⟩ => ⟨S_, .i1⟩
  | .hbm, ⟨19, _⟩ => ⟨S42, .i1⟩
  | .hbm, ⟨20, _⟩ => ⟨S1024x42x240, .f32⟩
  | .hbm, ⟨21, _⟩ => ⟨S1024x42x240, .i1⟩
  | .hbm, ⟨22, _⟩ => ⟨S_, .f32⟩
  | .hbm, ⟨23, _⟩ => ⟨S1024x42x240, .f32⟩
  | .hbm, ⟨24, _⟩ => ⟨S1024x42x240, .f32⟩
  | .hbm, ⟨25, _⟩ => ⟨S_, .f32⟩
  | .hbm, ⟨26, _⟩ => ⟨S1024x66x240, .f32⟩
  | .hbm, ⟨27, _⟩ => ⟨S_, .i32⟩
  | .hbm, ⟨28, _⟩ => ⟨S42, .i32⟩
  | .hbm, ⟨29, _⟩ => ⟨S42, .i1⟩
  | .hbm, ⟨30, _⟩ => ⟨S_, .i32⟩
  | .hbm, ⟨31, _⟩ => ⟨S42, .i32⟩
  | .hbm, ⟨32, _⟩ => ⟨S42, .i32⟩
  | .hbm, ⟨33, _⟩ => ⟨S42, .i32⟩
  | .hbm, ⟨34, _⟩ => ⟨S42x1, .i32⟩
  | .hbm, ⟨35, _⟩ => ⟨S_, .f32⟩
  | .hbm, ⟨36, _⟩ => ⟨S1024x42x240, .f32⟩
  | .hbm, ⟨37, _⟩ => ⟨S1024x66x240, .f32⟩
  | .hbm, ⟨38, _⟩ => ⟨S1024x66x240, .f32⟩
  | _, _ => ⟨S1024x66x240, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩
abbrev main_cst : Ref sig .tc := ⟨.hbm, 25, rfl⟩
abbrev main_v1 : Ref sig .tc := ⟨.hbm, 26, rfl⟩
abbrev main_c_0 : Ref sig .tc := ⟨.hbm, 27, rfl⟩
abbrev main_v2 : Ref sig .tc := ⟨.hbm, 28, rfl⟩
abbrev main_v3 : Ref sig .tc := ⟨.hbm, 29, rfl⟩
abbrev main_c_1 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_cst_2 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩

abbrev nD : Nat := 1
abbrev τ : Topo := Topo.v7x

variable {F : FTy → Type} [FloatOps F]
-- ==== Proof.Spec.lean ====
/- What the two results of the kernel and of the reference are, as functions of the argument `x` of shape
   (1024, 66, 240): `upper x` is its first 42 rows along the middle axis, and `masked z x` is `x` with every row from 42
   on filled with `z` (which the claim takes to be zero). -/
module

public import Idealize.ShloMosaic.Lib.ValueIdxCore

@[expose] public section

namespace Cert.UpperRows

open Idealize.ShloMosaic Idealize.ShloMosaic.ValueIdx

variable {α : Type}

/-- The shape of the argument and of the masked result. -/
abbrev Full : Shape := ⟨3, ![1024, 66, 240]⟩
/-- The shape of the result that keeps the first 42 rows. -/
abbrev Upper : Shape := ⟨3, ![1024, 42, 240]⟩

/-- A row number below 42, as a row number of the argument. -/
abbrev widen (k : Fin 42) : Fin 66 := ⟨k.val, by omega⟩

/-- Rows 0 to 41 of the argument. -/
def upper (x : Full.Idx → α) : Upper.Idx → α := fun i => x (ix3 (i 0) (widen (i 1)) (i 2))

/-- The argument with rows 42 to 65 replaced by `z`. -/
def masked (z : α) (x : Full.Idx → α) : Full.Idx → α := fun i => if (i 1).val < 42 then x i else z

end Cert.UpperRows

end
-- ==== Proof.KernelValue.lean ====
/- The value of the idealized kernel: its first result is the first 42 rows of the argument, its second the argument with
   the other rows at zero. -/
module

public import proofs.«01_k».proof.Defs
public import proofs.«01_k».proof.Proof.Gen.KernelIdeal.Frame
public import proofs.«01_k».proof.Proof.Spec
public import Idealize.ShloMosaic.Lib.Pipeline.ValueKit
public import Idealize.ShloMosaic.Lib.Claim

@[expose] public section

noncomputable section

open Idealize.ShloMosaic hiding ix3 eq_ix3
open Idealize.ShloMosaic.ValueIdx Idealize.ShloMosaic.TcCoe Idealize.SL.Sem
open Idealize.ShloMosaic.Pipeline (Dat)
open Cert.UpperRows

namespace Cert.KernelIdeal.Rows

open Cert.KernelIdeal Cert.KernelIdeal.Gen

variable (m : (ℓ : Loc nD τ sig) → Buf (Elt Ideal) ℓ) (ρ : Dev nD → PrngReg)

/-- The argument on device `c`. -/
abbrev arg (c : Dev nD) : Full.Idx → EReal := m ((c : Thread nD τ).loc main_arg0)

/-- The zero the body stores. -/
abbrev zero : EReal := Scalar.ofBits (F := Ideal) .f32 0x00000000#32

/-- The array the region reads is the argument with its first axis moved last. -/
theorem entry_apply (c : Dev nD) (i : S66x240x1024.Idx) : V m c main_v0 i = arg m c (ix3 (i 2) (i 0) (i 1)) := by
  entry_read
  refine transpose_apply _ _ _ i _ fun b => ?_
  match b with
  | ⟨0, _⟩ => rfl
  | ⟨1, _⟩ => rfl
  | ⟨2, _⟩ => rfl

/-- Every window's block index at point `t`: the last axis moves with the point. -/
theorem idx : ∀ t : Fin cfg0.N, win0_0.index t = ![0, 0, t.val] ∧ win0_1.index t = ![0, 0, t.val] ∧ win0_2.index t = ![0, 0, t.val] :=
  (by decide +kernel : ∀ t : Fin grid0.N, _)

/-- The block fetched at point `t`, read at `y`: the argument at lane `128·t + y 2`, row `y 0`, column `y 1`. -/
theorem block_apply (c : Dev nD) (t : Fin cfg0.N) (y : S42x240x128.Idx) (i : S66x240x1024.Idx)
    (h0 : (i 0).val = (y 0).val) (h1 : (i 1).val = (y 1).val) (h2 : (i 2).val = t.val * 128 + (y 2).val) :
    X0_0 m c t y = arg m c (ix3 (i 2) (i 0) (i 1)) := by
  rw [← entry_apply]
  unfold X0_0 Pipeline.Window.fill
  rw [dif_pos (moved0_0 t y)]
  unfold iblk
  rw [View.read_apply]
  refine congrArg (V m c main_v0) (funext fun a => Fin.ext ?_)
  blk_simp [idx t]
  match a with
  | ⟨0, _⟩ => simpa using h0.symm
  | ⟨1, _⟩ => simpa using h1.symm
  | ⟨2, _⟩ => simpa using h2.symm

/-- The first output's block is the fetched block. -/
theorem first_block (c : Dev nD) (t : Fin cfg0.N) : (outsAt0 m c t).1 = X0_0 m c t := by
  unfold outsAt0
  frame_out
  exact shapeCast_self _ _

/-- A block of 66 rows: the fetched block on the first 42, zero on the others. -/
def padded (x : S42x240x128.Idx → EReal) : S66x240x128.Idx → EReal :=
  fun y => if h : (y 0).val < 42 then x (ix3 ⟨(y 0).val, h⟩ (y 1) (y 2)) else zero

/-- The second output's block is the fetched block, padded with zero rows: each of the two stores agrees with it where it
    writes, and between them they write every row. -/
theorem second_block (c : Dev nD) (t : Fin cfg0.N) : (outsAt0 m c t).2 = padded (X0_0 m c t) := by
  unfold outsAt0
  frame_out
  funext y
  refine View.canon_apply_of_pieces (Val := Elt Ideal) (e := .f32) (padded (X0_0 m c t)) _ (fun p hp j => ?_) y ?_
  · simp only [List.mem_cons, List.mem_nil_iff, or_false] at hp
    rcases hp with rfl | rfl
    · -- the later store: zeros on rows 42 to 65
      have hge : ¬ (((Rect.unit (s := S66x240x128) ![42, 0, 0] ![24, 240, 128]
          inb_S66x240x128_S24x240x128_42_0_0).emb j) 0).val < 42 := by
        rw [Rect.emb_apply]; simp
      refine Eq.trans ?_ (dif_neg hge).symm
      rfl
    · -- the earlier store: the fetched block on rows 0 to 41
      refine (congrFun (shapeCast_self (X0_0 m c t) _) j).trans ?_
      have hlt : (((Rect.unit (s := S66x240x128) ![0, 0, 0] ![42, 240, 128]
          inb_S66x240x128_S42x240x128_0_0_0).emb j) 0).val < 42 := by
        rw [Rect.emb_apply]; simpa using (j 0).isLt
      refine Eq.trans ?_ (dif_pos hlt).symm
      refine congrArg (X0_0 m c t) (funext fun a => Fin.ext ?_)
      match a with
      | ⟨0, _⟩ => simp
      | ⟨1, _⟩ => simp
      | ⟨2, _⟩ => simp
  · by_cases h : (y 0).val < 42
    · refine ⟨_, List.mem_cons_of_mem _ (List.mem_singleton_self _), ?_⟩
      rw [Rect.mem_set_unit]
      intro a
      match a with
      | ⟨0, _⟩ => exact ⟨Nat.zero_le _, by simpa using h⟩
      | ⟨1, _⟩ => exact ⟨Nat.zero_le _, by simpa using (y 1).isLt⟩
      | ⟨2, _⟩ => exact ⟨Nat.zero_le _, by simpa using (y 2).isLt⟩
    · refine ⟨_, List.mem_cons_self, ?_⟩
      rw [Rect.mem_set_unit]
      intro a
      match a with
      | ⟨0, _⟩ => exact ⟨by simpa using h, by simpa using (y 0).isLt⟩
      | ⟨1, _⟩ => exact ⟨Nat.zero_le _, by simpa using (y 1).isLt⟩
      | ⟨2, _⟩ => exact ⟨Nat.zero_le _, by simpa using (y 2).isLt⟩

/-- Where the first output's block at point `t` puts its index `y` in the array. -/
theorem first_emb (t : Fin cfg0.N) (y : S42x240x128.Idx) (a : Fin 3) :
    ((win0_1.blk t).view.emb y a).val = (![0, 0, t.val * 128] : Fin 3 → ℕ) a + (y a).val := by
  blk_simp [idx t]
  match a with
  | ⟨0, _⟩ => simp
  | ⟨1, _⟩ => simp
  | ⟨2, _⟩ => simp

/-- Where the second output's block at point `t` puts its index `y` in the array. -/
theorem second_emb (t : Fin cfg0.N) (y : S66x240x128.Idx) (a : Fin 3) :
    ((win0_2.blk t).view.emb y a).val = (![0, 0, t.val * 128] : Fin 3 → ℕ) a + (y a).val := by
  blk_simp [idx t]
  match a with
  | ⟨0, _⟩ => simp
  | ⟨1, _⟩ => simp
  | ⟨2, _⟩ => simp

/-- The first result's array at the region's exit: the first 42 rows of the region's input. -/
theorem first_array (c : Dev nD) : (dats m 0 c).arrAt 1 cfg0.N
    = fun i : S42x240x1024.Idx => arg m c (ix3 (i 2) (widen (i 0)) (i 1)) := by
  refine (dats m 0 c).arrAt_eq_of_covers 1 _ (by decide +kernel) fun t _ y => ?_
  blk_simp [idx t]
  rw [after0_1, first_block]
  have e := first_emb t y
  exact block_apply m c t y (ix3 (widen ((win0_1.blk t).view.emb y 0)) ((win0_1.blk t).view.emb y 1)
    ((win0_1.blk t).view.emb y 2)) ((e 0).trans (Nat.zero_add _)) ((e 1).trans (Nat.zero_add _)) (e 2)

/-- The second result's array at the region's exit: the region's input, rows 42 to 65 zero. -/
theorem second_array (c : Dev nD) : (dats m 0 c).arrAt 2 cfg0.N
    = fun i : S66x240x1024.Idx => if (i 0).val < 42 then arg m c (ix3 (i 2) (i 0) (i 1)) else zero := by
  refine (dats m 0 c).arrAt_eq_of_covers 2 _ (by decide +kernel) fun t _ y => ?_
  blk_simp [idx t]
  rw [after0_2, second_block]
  have e := second_emb t y
  by_cases h : (y 0).val < 42
  · refine (dif_pos h).trans (Eq.trans ?_ (if_pos h).symm)
    exact block_apply m c t (ix3 ⟨(y 0).val, h⟩ (y 1) (y 2)) ((win0_2.blk t).view.emb y)
      ((e 0).trans (Nat.zero_add _)) ((e 1).trans (Nat.zero_add _)) (e 2)
  · exact (dif_neg h).trans (if_neg h).symm

/-- The first result, moved back into the argument's order of axes. -/
theorem tail_first (c : Dev nD) : Pipeline.afterTail₀ cfgs (dats m) 0 (V0 m) [hostOps1] c main_v2 = upper (arg m c) := by
  unfold Pipeline.afterTail₀
  simp only [List.flatten_cons, List.flatten_nil, List.append_nil]
  after_results
  have e := Pipeline.withArrays_arr (cfgs 0).spec (by decide) c (V0 m c) (fun w => (dats m 0 c).arrAt w (cfgs 0).N) 1
  refine (congrArg (fun A => transpose S1024x42x240 [2, 0, 1] A transposes_S42x240x1024_S1024x42x240_2_0_1)
    (e.trans (first_array m c))).trans ?_
  funext i
  refine (transpose_apply _ _ _ i (ix3 (i 1) (i 2) (i 0)) fun b => ?_).trans rfl
  match b with
  | ⟨0, _⟩ => rfl
  | ⟨1, _⟩ => rfl
  | ⟨2, _⟩ => rfl

/-- The second result, moved back into the argument's order of axes. -/
theorem tail_second (c : Dev nD) : Pipeline.afterTail₀ cfgs (dats m) 0 (V0 m) [hostOps1] c main_v3 = masked zero (arg m c) := by
  unfold Pipeline.afterTail₀
  simp only [List.flatten_cons, List.flatten_nil, List.append_nil]
  after_results
  have e := Pipeline.withArrays_arr (cfgs 0).spec (by decide) c (V0 m c) (fun w => (dats m 0 c).arrAt w (cfgs 0).N) 2
  refine (congrArg (fun A => transpose S1024x66x240 [2, 0, 1] A transposes_S66x240x1024_S1024x66x240_2_0_1)
    (e.trans (second_array m c))).trans ?_
  funext i
  refine (transpose_apply _ _ _ i (ix3 (i 1) (i 2) (i 0)) fun b => ?_).trans ?_
  · match b with
    | ⟨0, _⟩ => rfl
    | ⟨1, _⟩ => rfl
    | ⟨2, _⟩ => rfl
  · exact congrArg (fun k : Full.Idx => if (i 1).val < 42 then arg m c k else zero) (eq_ix3 i).symm

/-- THE KERNEL'S VALUE: every execution ends with the first result at rows 0 to 41 of the argument, the second at the
    argument with rows 42 to 65 zero, and the argument unchanged. -/
theorem run : θ_run defs (onTc (τ := τ) (main (F := Ideal))) ⟨m, fun _ => 0, ρ⟩ fun r => ∀ c : Dev nD,
    r.2.mem ((c.tc : Thread nD τ).loc main_v2) = upper (arg m c)
      ∧ r.2.mem ((c.tc : Thread nD τ).loc main_v3) = masked zero (arg m c)
      ∧ r.2.mem ((c.tc : Thread nD τ).loc main_arg0) = m ((c.tc : Thread nD τ).loc main_arg0) :=
  (θ_run defs _ _).mono (fun r h c =>
    ⟨((h c).2 main_v2 (Pipeline.mem_restRefs_of main_v2 (by decide) (by decide))).trans (tail_first m c),
     ((h c).2 main_v3 (Pipeline.mem_restRefs_of main_v3 (by decide) (by decide))).trans (tail_second m c),
     ((h c).2 main_arg0 (Pipeline.mem_restRefs_of main_arg0 (by decide) (by decide))).trans (W_main_arg0 m (dats m) c)⟩)
    (run_main m ρ)

end Cert.KernelIdeal.Rows

end
-- ==== Proof.ReferenceValue.lean ====
/- The value of the idealized reference: its first result is the first 42 rows of the argument, its second the argument
   with the other rows at zero. -/
module

public import proofs.«01_k».proof.Defs
public import proofs.«01_k».proof.Proof.Gen.ReferenceIdeal.Run
public import proofs.«01_k».proof.Proof.Spec
public import Idealize.ShloMosaic.Lib.Claim
public import Idealize.ShloMosaic.Lib.Pipeline.Value
public import Idealize.ShloMosaic.Lib.IdealHost
public import Idealize.ShloMosaic.Lib.Routing.OpsSet
public import Idealize.ShloMosaic.Lib.Routing.OpsPair

@[expose] public section

noncomputable section

open Idealize.ShloMosaic Idealize.ShloMosaic.ValueIdx Idealize.ShloMosaic.TcCoe Idealize.SL.Sem
open Cert.UpperRows

namespace Cert.ReferenceIdeal.Rows

open Cert.ReferenceIdeal Cert.ReferenceIdeal.Facts₀ Cert.ReferenceIdeal.Facts

variable [Cert.ReferenceIdeal.Facts]

/-- The row numbers 0 to 41 as the reference spells them: the literal list, a negative one counted from the end. -/
def rows : IVec S42x1 32 :=
  broadcastInDim S42x1 ![0] bcast_S42_S42x1_0 (select (cmpi .slt ((fun i => lit0 (S42.rowMajor i)))
    (broadcastInDim S42 ![] bcast_S_S42 (constantI S_ 32 0#32))) (addi ((fun i => lit0 (S42.rowMajor i)))
    (broadcastInDim S42 ![] bcast_S_S42 (constantI S_ 32 66#32))) ((fun i => lit0 (S42.rowMajor i))))

/-- Whether each row number lies within the argument, as the reference computes it. -/
def inside : IVec S42 1 :=
  Host.reduce IntOp.andi (andi (cmpi .sge rows (broadcastInDim S42x1 ![] bcast_S_S42x1 (constantI S_ 32 0#32)))
    (cmpi .sle rows (broadcastInDim S42x1 ![0, 1] bcast_S1x1_S42x1_0_1 (broadcastInDim S1x1 ![1] bcast_S1_S1x1_1
      (constantI S1 32 65#32))))) (constantI S_ 1 1#1) reducesTo_S42x1_S42_d1 h_S_

/-- The row number at position `k` is `k`. -/
theorem rows_apply (k : S42x1.Idx) : (rows k).toInt = ((k 0).val : Int) := by
  have h : ∀ a : Fin 42, ∀ b : Fin 1, (rows (ix2 a b)).toInt = (a.val : Int) := by decide +kernel
  rw [eq_ix2 k]
  exact h (k 0) (k 1)

/-- Every row number lies within the argument. -/
theorem inside_apply (k : S42.Idx) : inside k = 1#1 := by
  have h : ∀ a : Fin 42, inside (ix1 a) = 1#1 := by decide +kernel
  rw [eq_ix1 k]
  exact h (k 0)

/-- The gather's dimension numbers. -/
abbrev takeDims := gather_S1024x66x240_S42x1_S1024x42x240_02_1_n_n_1_1_10241240
/-- The scatter's dimension numbers. -/
abbrev putDims := scatter_S1024x66x240_S42x1_S1024x42x240_02_1_1_1

/-- The gather reads row `i 1` of the argument. -/
theorem gather_apply {α : Type} (x : S1024x66x240.Idx → α) (i : S1024x42x240.Idx) :
    Host.gather takeDims x rows i = upper x i := by
  unfold Host.gather upper
  congr 1
  funext a
  refine Fin.ext ?_
  show takeDims.start i rows a + takeDims.batchCoord i a + takeDims.offCoord i a = _
  rw [GatherDims.batchCoord_eq_zero _ _ _ List.not_mem_nil]
  match a with
  | ⟨0, _⟩ =>
    show 0 + 0 + (i 0).val = _
    simp
  | ⟨1, _⟩ =>
    show min (rows (ix2 (i 1) 0)).toInt.toNat 65 + 0 + 0 = (i 1).val
    rw [rows_apply]
    show min (((i 1).val : Int)).toNat 65 + 0 + 0 = (i 1).val
    have : (i 1).val < 42 := (i 1).isLt
    omega
  | ⟨2, _⟩ =>
    show 0 + 0 + (i 2).val = _
    simp

/-- Update `k` of the scatter lands at row `k 1`. -/
theorem lands (k : S1024x42x240.Idx) (i : S1024x66x240.Idx) :
    putDims.resultIdx? k rows = some i ↔ (k 0).val = (i 0).val ∧ (k 1).val = (i 1).val ∧ (k 2).val = (i 2).val := by
  rw [Routing.resultIdx?_eq_some]
  have h0 : putDims.start k rows 0 + (putDims.window k 0 : Int) = ((k 0).val : Int) := by
    show 0 + ((k 0).val : Int) = _
    simp
  have h1 : putDims.start k rows 1 + (putDims.window k 1 : Int) = ((k 1).val : Int) := by
    show (rows (ix2 (k 1) 0)).toInt + ((0 : Nat) : Int) = _
    rw [rows_apply]
    simp
  have h2 : putDims.start k rows 2 + (putDims.window k 2 : Int) = ((k 2).val : Int) := by
    show 0 + ((k 2).val : Int) = _
    simp
  constructor
  · intro h
    have a0 := h 0; have a1 := h 1; have a2 := h 2
    rw [h0] at a0; rw [h1] at a1; rw [h2] at a2
    exact ⟨by exact_mod_cast a0, by exact_mod_cast a1, by exact_mod_cast a2⟩
  · rintro ⟨a0, a1, a2⟩ a
    match a with
    | ⟨0, _⟩ => exact h0.trans (by exact_mod_cast a0)
    | ⟨1, _⟩ => exact h1.trans (by exact_mod_cast a1)
    | ⟨2, _⟩ => exact h2.trans (by exact_mod_cast a2)

/-- Ones scattered into zeros at the rows: one on the first 42 rows, zero on the others. -/
theorem scatter_apply {α : Type} (z o : α) (i : S1024x66x240.Idx) :
    Host.scatter putDims (fun _ b => b) (fun _ => z) rows (fun _ => o) i = if (i 1).val < 42 then o else z := by
  by_cases h : (i 1).val < 42
  · rw [if_pos h]
    exact Routing.scatter_set_hit _ _ _ _ i o (fun _ _ => rfl) (ix3 (i 0) ⟨(i 1).val, h⟩ (i 2)) ((lands _ _).mpr ⟨rfl, rfl, rfl⟩)
  · rw [if_neg h]
    refine Routing.scatter_set_miss _ _ _ _ i fun k hk => h ?_
    have := ((lands k i).mp hk).2.1
    have : (k 1).val < 42 := (k 1).isLt
    omega

/-- Every row number being within the argument, the reference's first result is what its gather reads: the first 42
    rows. -/
theorem first_result {α : Type} (x : S1024x66x240.Idx → α) (n : S1024x42x240.Idx → α) :
    select (broadcastInDim S1024x42x240 ![1] bcast_S42_S1024x42x240_1 inside) (Host.gather takeDims x rows) n = upper x := by
  funext i
  show Scalar.select (inside _) (Host.gather takeDims x rows i) (n i) = _
  rw [inside_apply, gather_apply]
  rfl

/-- The product of two arrays at an index. -/
theorem mulf_at (x y : FVec Ideal S1024x66x240 .f32) (i : S1024x66x240.Idx) :
    mulf x y i = ((x i : EReal) * (y i : EReal) : EReal) := rfl

/-- The word the reference scatters decodes to one. -/
theorem one_eq : (Scalar.ofBits (F := Ideal) .f32 0x3F800000#32 : EReal) = 1 := by
  show Ideal.ofBits .f32 0x3F800000#32 = 1
  simp [Ideal.ofBits, Ideal.ieee, -EReal.coe_mul]
  norm_num

/-- The zero word decodes to zero. -/
theorem zero_eq : (Scalar.ofBits (F := Ideal) .f32 0x00000000#32 : EReal) = 0 := by
  show Ideal.ofBits .f32 0x00000000#32 = 0
  simp [Ideal.ofBits, Ideal.ieee]

/-- The reference's second result: the argument times one on the first 42 rows, times zero on the others. -/
theorem second_result (x : FVec Ideal S1024x66x240 .f32) :
    mulf x (Host.scatter putDims (fun _ b => b)
      (broadcastInDim S1024x66x240 ![] bcast_S_S1024x66x240 (constant (F := Ideal) S_ .f32 0x00000000#32)) rows
      (broadcastInDim S1024x42x240 ![] bcast_S_S1024x42x240 (constant (F := Ideal) S_ .f32 0x3F800000#32)))
      = masked (Scalar.ofBits (F := Ideal) .f32 0x00000000#32) x := by
  rw [show broadcastInDim S1024x66x240 ![] bcast_S_S1024x66x240 (constant (F := Ideal) S_ .f32 0x00000000#32)
      = fun _ => Scalar.ofBits (F := Ideal) .f32 0x00000000#32 from rfl,
    show broadcastInDim S1024x42x240 ![] bcast_S_S1024x42x240 (constant (F := Ideal) S_ .f32 0x3F800000#32)
      = fun _ => Scalar.ofBits (F := Ideal) .f32 0x3F800000#32 from rfl]
  funext i
  rw [mulf_at, scatter_apply]
  unfold masked
  by_cases h : (i 1).val < 42
  · rw [if_pos h, if_pos h, one_eq, mul_one]
  · rw [if_neg h, if_neg h, zero_eq, mul_zero]

/-- THE REFERENCE'S VALUE: every execution ends with the first result at rows 0 to 41 of the argument, the second at the
    argument with rows 42 to 65 zero, and the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0) = upper (m ((c.tc : Thread nD τ).loc main_arg0))
        ∧ r.2.mem ((c.tc : Thread nD τ).loc main_v10)
          = masked (Scalar.ofBits (F := Ideal) .f32 0x00000000#32) (m ((c.tc : Thread nD τ).loc main_arg0))
        ∧ r.2.mem ((c.tc : Thread nD τ).loc main_arg0) = m ((c.tc : Thread nD τ).loc main_arg0) :=
  (θ_run defs _ _).mono (fun r h c => ⟨(h c).1.trans (first_result _ _), (h c).2.1.trans (second_result _), (h c).2.2⟩)
    (Value.run m ρ)

end Cert.ReferenceIdeal.Rows

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.ReferenceValue
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel terminates, its argument unchanged and every counter at zero. -/
theorem frame_kernel : Cert.quiescent_Kernel := fun m ρ _ => Cert.Kernel.Gen.frame m ρ

/-- So does its idealization. -/
theorem frame_kernelIdeal : Cert.quiescent_KernelIdeal := fun m ρ _ => Cert.KernelIdeal.Gen.frame m ρ

/-- So does the reference, which has no counter. -/
theorem frame_referenceIdeal : Cert.quiescent_ReferenceIdeal := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- Both results of the kernel and of the reference are the same functions of the argument. -/
theorem algebraic : Cert.algebraic_KernelIdeal_ReferenceIdeal := by
  intro m g m' g' _ hArg
  refine ⟨fun c => Cert.UpperRows.upper (Cert.KernelIdeal.Rows.arg m c),
    fun c => Cert.UpperRows.masked Cert.KernelIdeal.Rows.zero (Cert.KernelIdeal.Rows.arg m c),
    Cert.KernelIdeal.Rows.run m g, ?_⟩
  refine (θ_run Cert.ReferenceIdeal.defs _ _).mono (fun r h c => ?_) (Cert.ReferenceIdeal.Rows.run m' g')
  exact ⟨(h c).1.trans (congrArg Cert.UpperRows.upper (hArg c)),
    (h c).2.1.trans (congrArg (Cert.UpperRows.masked Cert.KernelIdeal.Rows.zero) (hArg c)), (h c).2.2⟩

/-- All five claims: the three frames, that the ideal program is the kernel, and that kernel and reference agree. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
